-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x7168 : Shape := ⟨3, ![96, 1, 7168]⟩
abbrev S96x1x1 : Shape := ⟨3, ![96, 1, 1]⟩
abbrev S12288x7168 : Shape := ⟨2, ![12288, 7168]⟩
abbrev S12288 : Shape := ⟨1, ![12288]⟩
abbrev S96x7168 : Shape := ⟨2, ![96, 7168]⟩
abbrev S96x1 : Shape := ⟨2, ![96, 1]⟩
abbrev S1x12288 : Shape := ⟨2, ![1, 12288]⟩
abbrev S96x12288 : Shape := ⟨2, ![96, 12288]⟩
abbrev S512x7168 : Shape := ⟨2, ![512, 7168]⟩
abbrev S1x512 : Shape := ⟨2, ![1, 512]⟩
abbrev S96x512 : Shape := ⟨2, ![96, 512]⟩
abbrev S96x1x12288 : Shape := ⟨3, ![96, 1, 12288]⟩

abbrev nBuf : Space → Nat
  | .hbm => 9
  | .vmem => 8
  | .smem => 0
  | _ => 0

abbrev bufTy : (tb : Table) → Fin (tcTables nBuf tb) → BufTy
  | .hbm, ⟨0, _⟩ => ⟨S96x1x7168, .fp8e4m3⟩
  | .hbm, ⟨1, _⟩ => ⟨S96x1x1, .f32⟩
  | .hbm, ⟨2, _⟩ => ⟨S12288x7168, .fp8e4m3⟩
  | .hbm, ⟨3, _⟩ => ⟨S12288, .f32⟩
  | .hbm, ⟨4, _⟩ => ⟨S96x7168, .fp8e4m3⟩
  | .hbm, ⟨5, _⟩ => ⟨S96x1, .f32⟩
  | .hbm, ⟨6, _⟩ => ⟨S1x12288, .f32⟩
  | .hbm, ⟨7, _⟩ => ⟨S96x12288, .bf16⟩
  | .hbm, ⟨8, _⟩ => ⟨S96x1x12288, .bf16⟩
  | .local _ .vmem, ⟨0, _⟩ => ⟨S96x7168, .fp8e4m3⟩
  | .local _ .vmem, ⟨1, _⟩ => ⟨S96x1, .f32⟩
  | .local _ .vmem, ⟨2, _⟩ => ⟨S512x7168, .fp8e4m3⟩
  | .local _ .vmem, ⟨3, _⟩ => ⟨S512x7168, .fp8e4m3⟩
  | .local _ .vmem, ⟨4, _⟩ => ⟨S1x512, .f32⟩
  | .local _ .vmem, ⟨5, _⟩ => ⟨S1x512, .f32⟩
  | .local _ .vmem, ⟨6, _⟩ => ⟨S96x512, .bf16⟩
  | .local _ .vmem, ⟨7, _⟩ => ⟨S96x512, .bf16⟩
  | _, _ => ⟨S96x1x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S96x1x7168 : Shape := ⟨3, ![96, 1, 7168]⟩
abbrev S96x1x1 : Shape := ⟨3, ![96, 1, 1]⟩
abbrev S12288x7168 : Shape := ⟨2, ![12288, 7168]⟩
abbrev S12288 : Shape := ⟨1, ![12288]⟩
abbrev S96x1x12288 : Shape := ⟨3, ![96, 1, 12288]⟩
abbrev S1x1x12288 : Shape := ⟨3, ![1, 1, 12288]⟩

abbrev nBuf : Space → Nat
  | .hbm => 5
  | .vmem => 5
  | .smem => 0
  | _ => 0

abbrev bufTy : (tb : Table) → Fin (tcTables nBuf tb) → BufTy
  | .hbm, ⟨0, _⟩ => ⟨S96x1x7168, .fp8e4m3⟩
  | .hbm, ⟨1, _⟩ => ⟨S96x1x1, .f32⟩
  | .hbm, ⟨2, _⟩ => ⟨S12288x7168, .fp8e4m3⟩
  | .hbm, ⟨3, _⟩ => ⟨S12288, .f32⟩
  | .hbm, ⟨4, _⟩ => ⟨S96x1x12288, .bf16⟩
  | .local _ .vmem, ⟨0, _⟩ => ⟨S96x1x7168, .fp8e4m3⟩
  | .local _ .vmem, ⟨1, _⟩ => ⟨S96x1x1, .f32⟩
  | .local _ .vmem, ⟨2, _⟩ => ⟨S12288x7168, .fp8e4m3⟩
  | .local _ .vmem, ⟨3, _⟩ => ⟨S12288, .f32⟩
  | .local _ .vmem, ⟨4, _⟩ => ⟨S96x1x12288, .bf16⟩
  | _, _ => ⟨S96x1x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S96x1x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x1x12288 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Lin.Pure.lean ====
/-
  The mathematics of the layer, with no program around it. `lin x xs w ws` is the layer written index by index over the
  extended reals; `reference_payload` says that the reference's one stored value is `lin` of its four arguments, and
  `block_payload` reads the kernel's one stored value, the product of a block of 512 output channels, at an index.
-/
module

public import proofs.«01_k».proof.Proof.Gen.KernelIdeal.Skeleton
public import proofs.«01_k».proof.Proof.Gen.ReferenceIdeal.Skeleton
public import Idealize.ShloMosaic.Lib.Pointwise

@[expose] public section

noncomputable section

namespace Cert.Proof.Lin

open Idealize.ShloMosaic
open scoped BigOperators

/-- The layer at token `t` and output channel `o`: the sum over the 7168 features of code times code, times the token's
    scale, times the channel's scale. -/
def lin (x : Vec Ideal Cert.ReferenceIdeal.S96x1x7168 .fp8e4m3) (xs : Vec Ideal Cert.ReferenceIdeal.S96x1x1 .f32)
    (w : Vec Ideal Cert.ReferenceIdeal.S12288x7168 .fp8e4m3) (ws : Vec Ideal Cert.ReferenceIdeal.S12288 .f32)
    (t : Fin 96) (o : Fin 12288) : EReal :=
  (∑ k : Fin 7168, (x (ix3 t 0 k) : EReal) * (w (ix2 o k) : EReal)) * (xs (ix3 t 0 0) : EReal) * (ws (ix1 o) : EReal)

/-- The reference's stored value at token `t` and channel `o` is the layer there. -/
theorem reference_payload (x : Vec Ideal Cert.ReferenceIdeal.S96x1x7168 .fp8e4m3) (xs : Vec Ideal Cert.ReferenceIdeal.S96x1x1 .f32)
    (w : Vec Ideal Cert.ReferenceIdeal.S12288x7168 .fp8e4m3) (ws : Vec Ideal Cert.ReferenceIdeal.S12288 .f32)
    (t : Fin 96) (z : Fin 1) (o : Fin 12288) :
    Cert.ReferenceIdeal.Gen.k0_pay1 x xs w ws (ix3 t z o) = lin x xs w ws t o := by
  pointwise [Cert.ReferenceIdeal.Gen.k0_pay1, lin]
  rw [Fin.fin_one_eq_zero z]

/-- The kernel's stored value at token `t` and channel `b` of a block. -/
theorem block_payload (x : Vec Ideal Cert.KernelIdeal.S96x7168 .fp8e4m3) (w : Vec Ideal Cert.KernelIdeal.S512x7168 .fp8e4m3)
    (xs : Vec Ideal Cert.KernelIdeal.S96x1 .f32) (ws : Vec Ideal Cert.KernelIdeal.S1x512 .f32) (t : Fin 96) (b : Fin 512) :
    Cert.KernelIdeal.Gen.k0_pay1 x w xs ws (ix2 t b)
      = (∑ k : Fin 7168, (x (ix2 t k) : EReal) * (w (ix2 b k) : EReal)) * (xs (ix2 t 0) : EReal) * (ws (ix2 0 b) : EReal) := by
  pointwise [Cert.KernelIdeal.Gen.k0_pay1]

/-- Dropping the middle axis of `x`, which has length one, keeps every entry. -/
theorem x_rows (x : Vec Ideal Cert.KernelIdeal.S96x1x7168 .fp8e4m3)
    (h : Cert.KernelIdeal.S96x1x7168.ShapeCasts Cert.KernelIdeal.S96x7168) (t : Fin 96) (k : Fin 7168) :
    shapeCast Cert.KernelIdeal.S96x7168 x h (ix2 t k) = x (ix3 t 0 k) := by
  pointwise

/-- Writing the channel scales as a row keeps every entry. -/
theorem ws_row (ws : Vec Ideal Cert.KernelIdeal.S12288 .f32)
    (h : Cert.KernelIdeal.S12288.ShapeCasts Cert.KernelIdeal.S1x12288) (o : Fin 12288) :
    shapeCast Cert.KernelIdeal.S1x12288 ws h (ix2 0 o) = ws (ix1 o) := by
  pointwise

end Cert.Proof.Lin

end
-- ==== Proof.Lin.Array.lean ====
/-
  What the kernel's run leaves. Each grid point multiplies the whole of `x` by its block of 512 rows of `w`; the 24 blocks
  tile the [96, 12288] array that the pallas_call writes (`final4`), which @main then reshapes to [96, 1, 12288]
  (`result_eq`). `run` is the kernel's run with that result named.
-/
module

public import proofs.«01_k».proof.Proof.Lin.Pure
public import proofs.«01_k».proof.Proof.Gen.KernelIdeal.Frame
public import Idealize.ShloMosaic.Lib.Pipeline.Value
public import Idealize.ShloMosaic.Lib.Claim

@[expose] public section

noncomputable section

namespace Cert.Proof.Lin

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-! ## The arrays the pallas_call reads -/

/-- `x` without its axis of length one. -/
theorem V_x (c : Dev nD) : V m c main_v0 = shapeCast S96x7168 (m ((c : Thread nD τ).loc main_arg0)) shapeCasts_S96x1x7168_S96x7168 := by
  unfold V V0
  simp only [hostOps0, List.flatten_cons, List.flatten_nil, List.append_nil]
  after_results
  rfl

/-- `x_scale` as a column. -/
theorem V_xs (c : Dev nD) : V m c main_v1 = shapeCast S96x1 (m ((c : Thread nD τ).loc main_arg1)) shapeCasts_S96x1x1_S96x1 := by
  unfold V V0
  simp only [hostOps0, List.flatten_cons, List.flatten_nil, List.append_nil]
  after_results
  rfl

/-- `w_scale` as a row. -/
theorem V_ws (c : Dev nD) : V m c main_v2 = shapeCast S1x12288 (m ((c : Thread nD τ).loc main_arg3)) shapeCasts_S12288_S1x12288 := by
  unfold V V0
  simp only [hostOps0, List.flatten_cons, List.flatten_nil, List.append_nil]
  after_results
  rfl

/-- The token rows of the reshaped `x`. -/
theorem V_x_apply (c : Dev nD) (t : Fin 96) (k : Fin 7168) :
    V m c main_v0 (ix2 t k) = m ((c : Thread nD τ).loc main_arg0) (ix3 t 0 k) := by
  rw [V_x]
  exact x_rows _ _ t k

/-- The entries of the column of token scales. -/
theorem V_xs_apply (c : Dev nD) (t : Fin 96) :
    V m c main_v1 (ix2 t 0) = m ((c : Thread nD τ).loc main_arg1) (ix3 t 0 0) := by
  rw [V_xs]
  pointwise

/-- The entries of the row of channel scales. -/
theorem V_ws_apply (c : Dev nD) (o : Fin 12288) :
    V m c main_v2 (ix2 0 o) = m ((c : Thread nD τ).loc main_arg3) (ix1 o) := by
  rw [V_ws]
  exact ws_row _ _ o

/-! ## The windows' blocks at a grid point -/

/-- Grid point `p` takes row block `p` of `w`, column block `p` of `w_scale` and of the result, and all of `x` and `x_scale`. -/
theorem idx_facts : ∀ p : Fin cfg0.N,
    (win0_0.index p (0 : Fin 2) = 0 ∧ win0_0.index p (1 : Fin 2) = 0)
    ∧ (win0_1.index p (0 : Fin 2) = 0 ∧ win0_1.index p (1 : Fin 2) = 0)
    ∧ (win0_2.index p (0 : Fin 2) = p.val ∧ win0_2.index p (1 : Fin 2) = 0)
    ∧ (win0_3.index p (0 : Fin 2) = 0 ∧ win0_3.index p (1 : Fin 2) = p.val)
    ∧ (win0_4.index p (0 : Fin 2) = 0 ∧ win0_4.index p (1 : Fin 2) = p.val) :=
  (by decide +kernel : ∀ p : Fin grid0.N, _)

/-- Channel `b` of block `p`, as a channel of the whole layer. -/
def chan (p : Fin cfg0.N) (b : Fin 512) : Fin 12288 :=
  ⟨p.val * 512 + b.val, by have h : p.val < 24 := p.isLt; have := b.isLt; omega⟩

theorem blk_x (c : Dev nD) (p : Fin cfg0.N) (t : Fin 96) (k : Fin 7168) :
    iblk m c 0 p (ix2 t k) = V m c main_v0 (ix2 t k) := by
  obtain ⟨⟨e0, e1⟩, -⟩ := idx_facts p
  show V m c main_v0 (((cfg0.win 0).blk p).view.emb (ix2 t k)) = _
  congr 1
  funext a; apply Fin.ext
  match a with
  | ⟨0, _⟩ => show win0_0.index p (0 : Fin 2) * 96 + 1 * t.val = t.val; omega
  | ⟨1, _⟩ => show win0_0.index p (1 : Fin 2) * 7168 + 1 * k.val = k.val; omega

theorem blk_xs (c : Dev nD) (p : Fin cfg0.N) (t : Fin 96) :
    iblk m c 1 p (ix2 t 0) = V m c main_v1 (ix2 t 0) := by
  obtain ⟨-, ⟨e0, e1⟩, -⟩ := idx_facts p
  show V m c main_v1 (((cfg0.win 1).blk p).view.emb (ix2 t 0)) = _
  congr 1
  funext a; apply Fin.ext
  match a with
  | ⟨0, _⟩ => show win0_1.index p (0 : Fin 2) * 96 + 1 * t.val = t.val; omega
  | ⟨1, _⟩ => show win0_1.index p (1 : Fin 2) * 1 + 1 * 0 = 0; omega

theorem blk_w (c : Dev nD) (p : Fin cfg0.N) (b : Fin 512) (k : Fin 7168) :
    iblk m c 2 p (ix2 b k) = V m c main_arg2 (ix2 (chan p b) k) := by
  obtain ⟨-, -, ⟨e0, e1⟩, -⟩ := idx_facts p
  show V m c main_arg2 (((cfg0.win 2).blk p).view.emb (ix2 b k)) = _
  congr 1
  funext a; apply Fin.ext
  match a with
  | ⟨0, _⟩ => show win0_2.index p (0 : Fin 2) * 512 + 1 * b.val = p.val * 512 + b.val; omega
  | ⟨1, _⟩ => show win0_2.index p (1 : Fin 2) * 7168 + 1 * k.val = k.val; omega

theorem blk_ws (c : Dev nD) (p : Fin cfg0.N) (b : Fin 512) :
    iblk m c 3 p (ix2 0 b) = V m c main_v2 (ix2 0 (chan p b)) := by
  obtain ⟨-, -, -, ⟨e0, e1⟩, -⟩ := idx_facts p
  show V m c main_v2 (((cfg0.win 3).blk p).view.emb (ix2 0 b)) = _
  congr 1
  funext a; apply Fin.ext
  match a with
  | ⟨0, _⟩ => show win0_3.index p (0 : Fin 2) * 1 + 1 * 0 = 0; omega
  | ⟨1, _⟩ => show win0_3.index p (1 : Fin 2) * 512 + 1 * b.val = p.val * 512 + b.val; omega

/-- Where index `(t, b)` of the result's block `p` lies in the whole array. -/
theorem emb_y (p : Fin cfg0.N) (t : Fin 96) (b : Fin 512) :
    ((cfg0.win 4).blk p).view.emb (ix2 t b) = (ix2 t (chan p b) : S96x12288.Idx) := by
  obtain ⟨-, -, -, -, e0, e1⟩ := idx_facts p
  funext a; apply Fin.ext
  match a with
  | ⟨0, _⟩ => show win0_4.index p (0 : Fin 2) * 96 + 1 * t.val = t.val; omega
  | ⟨1, _⟩ => show win0_4.index p (1 : Fin 2) * 512 + 1 * b.val = p.val * 512 + b.val; omega

/-! ## The array the pallas_call writes -/

/-- The layer of device `c`'s four arguments as launched. -/
def layer (c : Dev nD) (t : Fin 96) (o : Fin 12288) : EReal :=
  lin (m ((c : Thread nD τ).loc main_arg0)) (m ((c : Thread nD τ).loc main_arg1))
    (m ((c : Thread nD τ).loc main_arg2)) (m ((c : Thread nD τ).loc main_arg3)) t o

/-- The layer as an array of tokens by channels. -/
def G (c : Dev nD) : Vec Ideal S96x12288 .bf16 := fun i => layer m c (i 0) (i 1)

/-- The offsets the body's loads and stores use are zero. -/
theorem hz : (![0, 0] : Fin 2 → Nat) = fun _ => 0 := funext fun a => by fin_cases a <;> rfl

/-- The body loads whole blocks and stores one whole block: what it leaves is its stored value of the blocks. -/
theorem out_eq (x : Vec Ideal S96x7168 .fp8e4m3) (xs : Vec Ideal S96x1 .f32) (w : Vec Ideal S512x7168 .fp8e4m3)
    (ws : Vec Ideal S1x512 .f32) : out0_4 (F := Ideal) x xs w ws = k0_pay1 x w xs ws := by
  unfold out0_4
  rw [View.canon_unit_zero hz, View.ld_unit_zero (S := S96x7168) hz _ x, View.ld_unit_zero (S := S96x1) hz _ xs,
    View.ld_unit_zero (S := S512x7168) hz _ w, View.ld_unit_zero (S := S1x512) hz _ ws]

/-- What grid point `p` computes at token `t` and channel `b` of its block is the layer at channel `chan p b`. -/
theorem block_value (c : Dev nD) (p : Fin cfg0.N) (t : Fin 96) (b : Fin 512) :
    k0_pay1 (F := Ideal) (iblk m c 0 p) (iblk m c 2 p) (iblk m c 1 p) (iblk m c 3 p) (ix2 t b) = layer m c t (chan p b) := by
  rw [block_payload]
  simp only [blk_x, blk_xs, blk_w, blk_ws, layer, lin]
  exact congrArg₂ (· * ·) (congrArg₂ (· * ·)
    (Finset.sum_congr rfl fun k _ => congrArg₂ (· * ·) (V_x_apply m c t k) (congrFun (V_main_arg2 m c) _))
    (V_xs_apply m c t)) (V_ws_apply m c (chan p b))

/-- What grid point `p` writes back is its block of the layer. -/
theorem flushed4_eq (c : Dev nD) (p : Fin cfg0.N) :
    (dats m 0 c).flushed 4 p = ((cfg0.win 4).blk p).view.read (Elt Ideal) (G m c) := by
  show (cfg0.win 4).cut (grid0.coords p) ((dats m 0 c).after 4 p) = _
  rw [after0_4, out_eq]
  funext j
  obtain ⟨t, b, rfl⟩ : ∃ (t : Fin 96) (b : Fin 512), j = ix2 t b := ⟨j 0, j 1, eq_ix2 j⟩
  show k0_pay1 (F := Ideal) (iblk m c 0 p) (iblk m c 2 p) (iblk m c 1 p) (iblk m c 3 p) (ix2 t b)
    = G m c (((cfg0.win 4).blk p).view.emb (ix2 t b))
  rw [block_value, emb_y]
  rfl

/-- Every index of the array lies in the block of the grid point that its channel divided by 512 names. -/
theorem covered4 (i : S96x12288.Idx) :
    ∃ p : Fin cfg0.N, (cfg0.win 4).flush p = true ∧ i ∈ ((cfg0.win 4).blk p).view.set := by
  obtain ⟨t, o, rfl⟩ : ∃ (t : Fin 96) (o : Fin 12288), i = ix2 t o := ⟨i 0, i 1, eq_ix2 i⟩
  have ho := o.isLt
  let p : Fin cfg0.N := ⟨o.val / 512, by show _ < 24; omega⟩
  refine ⟨p, flush0_4 p, ?_⟩
  have h := ((cfg0.win 4).blk p).view.emb_mem_set (ix2 t (⟨o.val % 512, by omega⟩ : Fin 512))
  rw [emb_y] at h
  have e : chan p ⟨o.val % 512, by omega⟩ = o := Fin.ext (by show o.val / 512 * 512 + o.val % 512 = o.val; omega)
  rwa [e] at h

/-- The array after the run is the layer. -/
theorem final4 (c : Dev nD) : (dats m 0 c).arrAt 4 cfg0.N = G m c :=
  (dats m 0 c).arrAt_eq_of_cover 4 (G m c) (fun p _ => flushed4_eq m c p) covered4

/-! ## The result of @main -/

/-- The layer as the array [96, 1, 12288] that the program returns. -/
def result (c : Dev nD) : Vec Ideal S96x1x12288 .bf16 := fun i => layer m c (i 0) (i 2)

/-- The reshape after the pallas_call gives the layer in the result's shape. -/
theorem result_eq (c : Dev nD) :
    Pipeline.afterTail₀ cfgs (dats m) 0 (V0 m) [hostOps1] c main_v4 = result m c := by
  have h : Pipeline.withArrays (cfgs 0).spec c (V0 m c) (fun w => (dats m 0 c).arrAt w (cfgs 0).N) (Proc.devRef .tc main_v3)
      = G m c := (Pipeline.withArrays_arr spec0 launch0.win.arr_inj c (V0 m c) _ 4).trans (final4 m c)
  have e : Pipeline.afterTail₀ cfgs (dats m) 0 (V0 m) [hostOps1] c main_v4
      = shapeCast S96x1x12288 (G m c) shapeCasts_S96x12288_S96x1x12288 := by
    unfold Pipeline.afterTail₀
    rw [← h]
    simp only [List.flatten_cons, List.flatten_nil, List.append_nil]
    after_results
    rfl
  rw [e]
  funext i
  obtain ⟨t, z, o, rfl⟩ : ∃ (t : Fin 96) (z : Fin 1) (o : Fin 12288), i = ix3 t z o := ⟨i 0, i 1, i 2, eq_ix3 i⟩
  pointwise [G, result]

/-- The kernel's run: the result is the layer, the arguments end unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h.1 c).2 main_v4 (Pipeline.mem_restRefs_of main_v4 (by decide) (by decide)) |>.trans (result_eq m c), h.2 c⟩)
    (θ_run_and (run_main m ρ) (unchanged m ρ))

end Cert.Proof.Lin

end
-- ==== Proof.lean ====
/-
  The proof of `Cert.Claim`. The three frames are the generated ones. Kernel and KernelIdeal are the same program, so the
  rewrite claim between them is trivial. `algebraic` says that over the extended reals the kernel and the reference leave
  the same array; `Proof/Lin/Pure.lean` holds the mathematics and `Proof/Lin/Array.lean` the kernel's run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Lin.Array
public import Idealize.ShloMosaic.Adequacy
public import Idealize.ShloMosaic.Init

@[expose] public section

noncomputable section

namespace Cert.Proof

open Idealize.ShloMosaic Idealize.SL.Sem Cert.Kernel

/-- From equal arguments the kernel and the reference both finish, both leave the layer of those arguments as their
    result, and both leave the arguments unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Lin.result m c, Lin.run m g, ?_⟩
  refine (θ_run (Cert.ReferenceIdeal.defs (F := Ideal)) _ _).mono (fun r h c => ⟨(h c).1.trans ?_, (h c).2⟩)
    (Cert.ReferenceIdeal.Value.run (F := Ideal) m' g')
  rw [(hagree c).1, (hagree c).2.1, (hagree c).2.2.1, (hagree c).2.2.2]
  funext i
  obtain ⟨t, z, o, rfl⟩ : ∃ (t : Fin 96) (z : Fin 1) (o : Fin 12288), i = ix3 t z o := ⟨i 0, i 1, i 2, eq_ix3 i⟩
  exact Lin.reference_payload _ _ _ _ t z o

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
